-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S512x152450 : Shape := ⟨2, ![512, 152450]⟩
abbrev S30490x5 : Shape := ⟨2, ![30490, 5]⟩
abbrev S30490 : Shape := ⟨1, ![30490]⟩
abbrev S1x152450 : Shape := ⟨2, ![1, 152450]⟩
abbrev S_ : Shape := ⟨0, ![]⟩
abbrev S1x153600 : Shape := ⟨2, ![1, 153600]⟩
abbrev S1x30490 : Shape := ⟨2, ![1, 30490]⟩
abbrev S512x30490 : Shape := ⟨2, ![512, 30490]⟩
abbrev S512x5120 : Shape := ⟨2, ![512, 5120]⟩
abbrev S1x5120 : Shape := ⟨2, ![1, 5120]⟩
abbrev S1x1024 : Shape := ⟨2, ![1, 1024]⟩
abbrev S512x1024 : Shape := ⟨2, ![512, 1024]⟩
abbrev S2560x512 : Shape := ⟨2, ![2560, 512]⟩
abbrev S512x2560 : Shape := ⟨2, ![512, 2560]⟩
abbrev S1x2560 : Shape := ⟨2, ![1, 2560]⟩
abbrev S512x512 : Shape := ⟨2, ![512, 512]⟩
abbrev S1x512 : Shape := ⟨2, ![1, 512]⟩

abbrev nBuf : Space → Nat
  | .hbm => 9
  | .vmem => 8
  | .smem => 0
  | _ => 0

abbrev bufTy : (tb : Table) → Fin (tcTables nBuf tb) → BufTy
  | .hbm, ⟨0, _⟩ => ⟨S512x152450, .f32⟩
  | .hbm, ⟨1, _⟩ => ⟨S30490x5, .f32⟩
  | .hbm, ⟨2, _⟩ => ⟨S30490, .f32⟩
  | .hbm, ⟨3, _⟩ => ⟨S1x152450, .f32⟩
  | .hbm, ⟨4, _⟩ => ⟨S_, .i32⟩
  | .hbm, ⟨5, _⟩ => ⟨S_, .f32⟩
  | .hbm, ⟨6, _⟩ => ⟨S1x153600, .f32⟩
  | .hbm, ⟨7, _⟩ => ⟨S1x30490, .f32⟩
  | .hbm, ⟨8, _⟩ => ⟨S512x30490, .f32⟩
  | .local _ .vmem, ⟨0, _⟩ => ⟨S512x5120, .f32⟩
  | .local _ .vmem, ⟨1, _⟩ => ⟨S512x5120, .f32⟩
  | .local _ .vmem, ⟨2, _⟩ => ⟨S1x5120, .f32⟩
  | .local _ .vmem, ⟨3, _⟩ => ⟨S1x5120, .f32⟩
  | .local _ .vmem, ⟨4, _⟩ => ⟨S1x1024, .f32⟩
  | .local _ .vmem, ⟨5, _⟩ => ⟨S1x1024, .f32⟩
  | .local _ .vmem, ⟨6, _⟩ => ⟨S512x1024, .f32⟩
  | .local _ .vmem, ⟨7, _⟩ => ⟨S512x1024, .f32⟩
  | _, _ => ⟨S512x152450, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨1, ![30], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S512x5120 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x5120 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== ReferenceIdeal.lean ====
abbrev S512x152450 : Shape := ⟨2, ![512, 152450]⟩
abbrev S30490x5 : Shape := ⟨2, ![30490, 5]⟩
abbrev S30490 : Shape := ⟨1, ![30490]⟩
abbrev S512x30490x5 : Shape := ⟨3, ![512, 30490, 5]⟩
abbrev S30490x512 : Shape := ⟨2, ![30490, 512]⟩
abbrev S512x30490 : Shape := ⟨2, ![512, 30490]⟩
abbrev S1x30490 : Shape := ⟨2, ![1, 30490]⟩

abbrev nBuf : Space → Nat
  | .hbm => 9
  | .vmem => 0
  | .smem => 0
  | _ => 0

abbrev bufTy : (tb : Table) → Fin (tcTables nBuf tb) → BufTy
  | .hbm, ⟨0, _⟩ => ⟨S512x152450, .f32⟩
  | .hbm, ⟨1, _⟩ => ⟨S30490x5, .f32⟩
  | .hbm, ⟨2, _⟩ => ⟨S30490, .f32⟩
  | .hbm, ⟨3, _⟩ => ⟨S512x30490x5, .f32⟩
  | .hbm, ⟨4, _⟩ => ⟨S30490x512, .f32⟩
  | .hbm, ⟨5, _⟩ => ⟨S512x30490, .f32⟩
  | .hbm, ⟨6, _⟩ => ⟨S1x30490, .f32⟩
  | .hbm, ⟨7, _⟩ => ⟨S512x30490, .f32⟩
  | .hbm, ⟨8, _⟩ => ⟨S512x30490, .f32⟩
  | _, _ => ⟨S512x152450, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩

abbrev nD : Nat := 1
abbrev τ : Topo := Topo.v7x

variable {F : FTy → Type} [FloatOps F]
-- ==== Proof.WordFrame.lean ====
/-
  The frame of the kernel at the machine's own words. No value is stated: each staging buffer is only
  known to hold something, before the body and after it, which is enough for every run to end with the
  arguments as they began and every semaphore at 0.
-/
module

public import proofs.«01_k».proof.Proof.Gen.Kernel.Frame
public import proofs.«01_k».proof.Proof.Gen.Kernel.Skeleton
public import Idealize.ShloMosaic.Lib.Pipeline.FrameBody
public import Idealize.ShloMosaic.Lib.Ring
public import Idealize.ShloMosaic.Lib.Tactic

@[expose] public section

set_option maxRecDepth 16384

noncomputable section

namespace Cert.Kernel.SplitLinear

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligationLoose)
open Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body, run on four whole buffers that hold anything at all, ends with them holding something. -/
theorem body_runs (c : Dev nD) (E : Set ℕ) (i : grid0.Coords)
    (arg1 : Memref sig .tc .vmem S512x5120 .f32) (harg1 : arg1.IsWhole) (arg2 : Memref sig .tc .vmem S1x5120 .f32) (harg2 : arg2.IsWhole)
    (arg3 : Memref sig .tc .vmem S1x1024 .f32) (harg3 : arg3.IsWhole) (arg4 : Memref sig .tc .vmem S512x1024 .f32) (harg4 : arg4.IsWhole)
    (K : PUnit → sProp 𝕄) :
    iprop((∃ X, owns (c : Thread nD τ) arg1 fullShare X) ∗ (∃ X, owns (c : Thread nD τ) arg2 fullShare X)
        ∗ (∃ X, owns (c : Thread nD τ) arg3 fullShare X) ∗ (∃ X, owns (c : Thread nD τ) arg4 fullShare X)
        ∗ (iprop((∃ X, owns (c : Thread nD τ) arg1 fullShare X) ∗ (∃ X, owns (c : Thread nD τ) arg2 fullShare X)
            ∗ (∃ X, owns (c : Thread nD τ) arg3 fullShare X) ∗ (∃ X, owns (c : Thread nD τ) arg4 fullShare X)) -∗ K ⟨⟩))
      ⊢ wp frame (wpE (defs₀ (F := F)) Variants.none c none) E (cc0_split_linear i arg1 harg1 arg2 harg2 arg3 harg3 arg4 harg4) K := by
  rw [cc0_split_linear_eq_skeleton]
  unfold cc0_split_linear_skel owns
  simp only [k0_part1_eq_skeleton]
  iintro ⟨⟨%x, %fx, -, Hx⟩, ⟨%w, %fw, -, Hw⟩, ⟨%b, %fb, -, Hb⟩, ⟨%o, %fo, -, Ho⟩, Hk⟩
  sl_exec
  sl_step
  iapply Hk
  isplitl [Hx]
  · iexists _, fx; isplitr
    · ipureintro; rfl
    iexact Hx
  isplitl [Hw]
  · iexists _, fw; isplitr
    · ipureintro; rfl
    iexact Hw
  isplitl [Hb]
  · iexists _, fb; isplitr
    · ipureintro; rfl
    iexact Hb
  iexists _, _; isplitr
  swap
  · iexact Ho
  ipureintro; rfl

/-- The pipeline's data: the arrays as the region's entry leaves them. What the body leaves is never read
(every window is forgotten below), so any contents do. -/
def dats (_ : Fin 1) (c : Dev nD) : Dat τ (Elt F) Unit ℕ (UR sig nD τ) ℕ cfg0 c where
  A w := V m c (Pipeline.arrRef spec0 w)
  after _ _ := fun _ => Classical.arbitrary _
  Φ _ := Pipeline.ΦA spec0 c
  q _ := fullShare
  owed _ := 0

/-- The arrays are found as the region's entry leaves them. -/
theorem dats_A (c : Dev nD) (w : Fin cfg0.W) : (dats m 0 c).A w = V m c (Pipeline.arrRef spec0 w) := by
  dsimp only [dats]

/-- Of no window is it recorded what its buffers hold. -/
abbrev forgotten : Fin cfg0.W → Bool := fun _ => true

/-- The body's row of the program table, at point `t`'s buffers. -/
theorem defs₀_row (t : Fin cfg0.N) : defs₀ (F := F) .tc cfg0.body (cfg0.bodyArgs t (cfg0.slots t)) = bodyAt0 t := by
  unfold defs₀; rw [Defs.onTc_tc]

set_option maxHeartbeats 1000000 in
/-- The body runs at every point. -/
theorem body_meets (c : Dev nD) :
    BodyObligationLoose (dats m 0 c) (defs₀ (F := F)) Variants.none () Set.univ forgotten := fun t => by
  rw [bigSep_W0, defs₀_row]
  simp only
  rw [show (dats m 0 c).Φ t.succ = (dats m 0 c).Φ t.castSucc from rfl,
    show (dats m 0 c).owesAt () t.succ = (dats m 0 c).owesAt () t.castSucc from rfl]
  iintro ⟨HΦ, Howe, Hx, Hw, Hb, Ho⟩
  iapply (body_runs (F := F) c Set.univ (grid0.coords t) _ _ _ _ _ _ _ _ _)
  isplitl [Hx]; · iexact Hx
  isplitl [Hw]; · iexact Hw
  isplitl [Hb]; · iexact Hb
  isplitl [Ho]; · iexact Ho
  iintro ⟨Hx, Hw, Hb, Ho⟩
  isplitl [HΦ]; · iexact HΦ
  isplitl [Howe]; · iexact Howe
  isplitl [Hx]; · iexact Hx
  isplitl [Hw]; · iexact Hw
  isplitl [Hb]; · iexact Hb
  iexact Ho

-- the run theorem's implicit arguments are found by unfolding plain definitions in the types
set_option backward.isDefEq.respectTransparency.types false in
set_option maxHeartbeats 800000 in
/-- Every run ends with the input arrays at their entry contents, everything else but the result as it was
at the region's entry, and every semaphore at 0. -/
theorem run_all : θ_run defs (onTc (τ := τ) (main (F := F))) (s₀ m ρ)
    (fun r => RDat.FramePost cfg0 (fun c => (dats m 0 c).toRForget forgotten) (V m) r ∧ r.2.sem = fun _ => 0) :=
  Pipeline.θ_run_frame_forget (Q' := _) cfgs (dats m) (0 : Fin 1) launch0 defs₀ Variants.none forgotten m ρ main
    (hbody := body_meets m) (hshare := fun c => (dats m 0 c).share_full fun _ => rfl)
    (howed := fun _ _ => rfl) (V := V m) (hmain := hmain m Variants.none) (hA := dats_A m) (hΦ := fun _ _ => rfl)

/-- The frame: the arguments end as they began and every semaphore is 0. -/
theorem frame_run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  (θ_run defs _ _).mono (fun _ h => ⟨fun c =>
      ⟨(h.1.arr_in c 0 rfl).trans ((dats_A m c 0).trans (V_main_arg0 m c)),
       ((h.1 c).2 main_arg1 (Pipeline.mem_restRefs_of main_arg1 (by decide) (by decide))).trans (V_main_arg1 m c),
       ((h.1 c).2 main_arg2 (Pipeline.mem_restRefs_of main_arg2 (by decide) (by decide))).trans (V_main_arg2 m c)⟩, h.2⟩)
    (run_all m ρ)

end Cert.Kernel.SplitLinear

end
-- ==== Proof.Half.lean ====
/-
  One half of a block: what the kernel's body computes for 512 of the 1024 output columns, over the
  extended reals. The body multiplies 2560 columns by their weights and contracts them with a
  selection matrix whose entry (k, c) is 1 when k / 5 = c and 0 elsewhere; column c of the product is
  therefore the sum of the five products in columns 5c … 5c+4.
-/
module

public import proofs.«01_k».proof.Proof.Gen.KernelIdeal.Skeleton
public import Idealize.ShloMosaic.Lib.Pointwise
public import Idealize.ShloMosaic.Lib.Pipeline.ValueKit
public import Idealize.ShloMosaic.Lib.WordCmp

@[expose] public section

set_option maxRecDepth 16384

noncomputable section

namespace Cert.KernelIdeal.SplitLinear

open Idealize.ShloMosaic Idealize.ShloMosaic.Tactic
open Cert.KernelIdeal.Gen
open scoped BigOperators

/-- Column `5c + h` of a half: the `h`-th of the five columns that group `c` sums. -/
abbrev lane (c : Fin 512) (h : Fin 5) : Fin 2560 := ⟨5 * c.val + h.val, by omega⟩

/-- A sum over 2560 terms, each kept only when its index divided by 5 is `c`, is the sum of the five
terms of group `c`. -/
theorem sum_group (f : Fin 2560 → EReal) (c : Fin 512) :
    ∑ k : Fin 2560, f k * (if k.val / 5 = c.val then 1 else 0) = ∑ h : Fin 5, f (lane c h) := by
  have hsplit : ∑ k : Fin 2560, f k * (if k.val / 5 = c.val then 1 else 0)
      = ∑ a : Fin 512, ∑ h : Fin 5, f (lane a h) * (if a = c then 1 else 0) := by
    refine Fin.sum_divmod_congr (S := 5) fun t ha hs => ?_
    have ht : lane ⟨t.val / 5, ha⟩ ⟨t.val % 5, hs⟩ = t := Fin.ext (Nat.div_add_mod t.val 5)
    rw [ht]
    simp only [Fin.ext_iff]
  rw [hsplit, Finset.sum_eq_single c]
  · simp
  · intro a _ hac
    simp [hac]
  · simp

/-- The row index divided by 5, as the words the kernel computes it with: the quotient rounded toward
zero, less 1 where the signs differ and the remainder is not 0 (no row's do). -/
theorem quotient_word : ∀ k : Fin 2560,
    Scalar.select
        (IntOp.andi
          (IntOp.cmpi .ne
            (IntOp.subi (BitVec.setWidth 32 (IntOp.cmpi .sgt (BitVec.ofNat 32 k.val) 0#32))
              (BitVec.setWidth 32 (IntOp.cmpi .slt (BitVec.ofNat 32 k.val) 0#32)))
            (Scalar.subi (Scalar.extui (Scalar.cmpi .sgt 5#32 0#32)) (Scalar.extui (Scalar.cmpi .slt 5#32 0#32))))
          (IntOp.cmpi .ne (IntOp.remsi .vector (BitVec.ofNat 32 k.val) 5#32) 0#32))
        (IntOp.subi (IntOp.divsi .vector (BitVec.ofNat 32 k.val) 5#32) 1#32)
        (IntOp.divsi .vector (BitVec.ofNat 32 k.val) 5#32)
      = BitVec.ofNat 32 (k.val / 5) := by
  decide +kernel

/-- The selection matrix: entry `(k, c)` is 1 when column `k` belongs to group `c`, and 0 elsewhere. -/
theorem mask_apply (k : Fin 2560) (c : Fin 512) :
    k0_pay2 (F := Ideal) (ix2 k c) = if k.val / 5 = c.val then (1 : EReal) else 0 := by
  pointwise [k0_pay2]
  rw [quotient_word k]
  by_cases h : k.val / 5 = c.val
  · rw [if_pos h, h]; simp [Scalar.select, IntOp.cmpi]
  · have hw : (BitVec.ofNat 32 (k.val / 5) == BitVec.ofNat 32 c.val) = false := beq_eq_false_iff_ne.mpr fun e => h <| by
      have := congrArg BitVec.toNat e
      simp only [BitVec.toNat_ofNat] at this
      omega
    rw [if_neg h]; simp [Scalar.select, IntOp.cmpi, hw]

/-- What a half stores at row `r`, column `c`: the five products of group `c` summed, plus the bias. -/
theorem half_apply (x : Vec Ideal S512x2560 .f32) (w : Vec Ideal S1x2560 .f32) (b : Vec Ideal S1x512 .f32)
    (r c : Fin 512) :
    k0_pay1 (k0_pay2 (F := Ideal)) x w b (ix2 r c)
      = ∑ h : Fin 5, x (ix2 r (lane c h)) * w (ix2 0 (lane c h)) + b (ix2 0 c) := by
  pointwise [k0_pay1, mask_apply]
  rw [sum_group fun k => x (ix2 r k) * w (ix2 0 k)]

end Cert.KernelIdeal.SplitLinear

end
-- ==== Proof.Body.lean ====
/-
  What one run of the kernel's body does to its staging buffers: it leaves the three inputs as they
  were and overwrites the whole output block, columns 0 … 511 from the first halves of the inputs and
  columns 512 … 1023 from the second halves.
-/
module

public import proofs.«01_k».proof.Proof.Gen.KernelIdeal.Frame
public import proofs.«01_k».proof.Proof.Gen.KernelIdeal.Skeleton
public import Idealize.ShloMosaic.Lib.Pipeline.FrameBody
public import Idealize.ShloMosaic.Lib.Ring
public import Idealize.ShloMosaic.Lib.Tactic

@[expose] public section

set_option maxRecDepth 16384

noncomputable section

namespace Cert.KernelIdeal.SplitLinear

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Cert.KernelIdeal.Gen

variable {F : FTy → Type} [FloatOps F]

local notation "𝕄" => MT nD τ sig Unit (Elt F) ℕ (UR sig nD τ) ℕ

/-- The left half of a block of `x`. -/
abbrev xL : Rect S512x5120 := Rect.unit (s := S512x5120) ![0, 0] S512x2560.size inb_S512x5120_S512x2560_0_0
/-- The right half of a block of `x`. -/
abbrev xR : Rect S512x5120 := Rect.unit (s := S512x5120) ![0, 2560] S512x2560.size inb_S512x5120_S512x2560_0_2560
/-- The left half of a block of the weight row. -/
abbrev wL : Rect S1x5120 := Rect.unit (s := S1x5120) ![0, 0] S1x2560.size inb_S1x5120_S1x2560_0_0
/-- The right half of a block of the weight row. -/
abbrev wR : Rect S1x5120 := Rect.unit (s := S1x5120) ![0, 2560] S1x2560.size inb_S1x5120_S1x2560_0_2560
/-- The left half of a block of the bias row. -/
abbrev bL : Rect S1x1024 := Rect.unit (s := S1x1024) ![0, 0] S1x512.size inb_S1x1024_S1x512_0_0
/-- The right half of a block of the bias row. -/
abbrev bR : Rect S1x1024 := Rect.unit (s := S1x1024) ![0, 512] S1x512.size inb_S1x1024_S1x512_0_512
/-- The left half of a block of the result. -/
abbrev oL : Rect S512x1024 := Rect.unit (s := S512x1024) ![0, 0] S512x512.size inb_S512x1024_S512x512_0_0
/-- The right half of a block of the result. -/
abbrev oR : Rect S512x1024 := Rect.unit (s := S512x1024) ![0, 512] S512x512.size inb_S512x1024_S512x512_0_512

/-- The output block two stores make, the later one first. -/
abbrev halves (right left : Vec F S512x512 .f32) : List (View.Piece (Elt F) S512x1024 .f32) := [⟨oR, right⟩, ⟨oL, left⟩]

/-- The two halves make up the whole block. -/
theorem halves_cover (right left : Vec F S512x512 .f32) (y : S512x1024.Idx) :
    ∃ p ∈ halves right left, y ∈ p.1.set :=
  View.cover_of_tiled (halves right left) S512x512.size (by rfl) y

/-- The output block the body leaves, of the contents of the input blocks. -/
def stored (x : Vec F S512x5120 .f32) (w : Vec F S1x5120 .f32) (b : Vec F S1x1024 .f32) : Vec F S512x1024 .f32 :=
  View.canon (halves (k0_pay1 (k0_pay2 (F := F)) (View.ld x xR) (View.ld w wR) (View.ld b bR))
    (k0_pay3 (View.ld x xL) (View.ld w wL) (View.ld b bL)))

set_option maxHeartbeats 1000000 in
/-- The body, run on whole buffers that hold `x`, `w`, `b` and anything at all, ends with the inputs
unchanged and the output at `stored x w b`. -/
theorem body_triple (c : Dev nD) (E : Set ℕ) (i : grid0.Coords)
    (arg1 : Memref sig .tc .vmem S512x5120 .f32) (harg1 : arg1.IsWhole) (arg2 : Memref sig .tc .vmem S1x5120 .f32) (harg2 : arg2.IsWhole)
    (arg3 : Memref sig .tc .vmem S1x1024 .f32) (harg3 : arg3.IsWhole) (arg4 : Memref sig .tc .vmem S512x1024 .f32) (harg4 : arg4.IsWhole)
    (x : Vec F S512x5120 .f32) (w : Vec F S1x5120 .f32) (b : Vec F S1x1024 .f32) (old : Vec F S512x1024 .f32) (K : PUnit → sProp 𝕄) :
    iprop(owns (c : Thread nD τ) arg1 fullShare x ∗ owns (c : Thread nD τ) arg2 fullShare w
        ∗ owns (c : Thread nD τ) arg3 fullShare b ∗ owns (c : Thread nD τ) arg4 fullShare old
        ∗ (iprop(owns (c : Thread nD τ) arg1 fullShare x ∗ owns (c : Thread nD τ) arg2 fullShare w
            ∗ owns (c : Thread nD τ) arg3 fullShare b ∗ owns (c : Thread nD τ) arg4 fullShare (stored x w b)) -∗ K ⟨⟩))
      ⊢ wp frame (wpE (defs₀ (F := F)) Variants.none c none) E (cc0_split_linear i arg1 harg1 arg2 harg2 arg3 harg3 arg4 harg4) K := by
  simp only [cc0_split_linear_eq_skeleton, k0_part1_eq_skeleton]
  unfold cc0_split_linear_skel owns
  simp only [k0_part1_eq_skeleton]
  iintro ⟨⟨%fx, %hx, Hx⟩, ⟨%fw, %hw, Hw⟩, ⟨%fb, %hb, Hb⟩, ⟨%fo, -, Ho⟩, Hk⟩
  subst hx hw hb
  sl_exec
  sl_step
  iapply Hk
  isplitl [Hx]
  · iexists fx; isplitr
    · ipureintro; rfl
    iexact Hx
  isplitl [Hw]
  · iexists fw; isplitr
    · ipureintro; rfl
    iexact Hw
  isplitl [Hb]
  · iexists fb; isplitr
    · ipureintro; rfl
    iexact Hb
  iexists _; isplitr
  swap
  · iexact Ho
  ipureintro
  exact View.read_writes_eq_canon _ _ _ (halves_cover _ _)

end Cert.KernelIdeal.SplitLinear

end
-- ==== Proof.Block.lean ====
/-
  One whole output block over the extended reals: column j of the 1024 is the sum of the five
  products in columns 5j … 5j+4 of the 5120, plus the bias of column j. Both halves say the same of
  their own columns.
-/
module

public import proofs.«01_k».proof.Proof.Half
public import proofs.«01_k».proof.Proof.Body

@[expose] public section

set_option maxRecDepth 16384

noncomputable section

namespace Cert.KernelIdeal.SplitLinear

open Idealize.ShloMosaic Idealize.ShloMosaic.Tactic
open Cert.KernelIdeal.Gen
open scoped BigOperators

/-- Column `5j + h` of a block: the `h`-th of the five columns that output column `j` sums. -/
abbrev col (j : Fin 1024) (h : Fin 5) : Fin 5120 := ⟨5 * j.val + h.val, by omega⟩

/-- The output block at row `r`, column `j`, of any contents of the input blocks. -/
theorem stored_apply (x : Vec Ideal S512x5120 .f32) (w : Vec Ideal S1x5120 .f32) (b : Vec Ideal S1x1024 .f32)
    (r : Fin 512) (j : Fin 1024) :
    stored x w b (ix2 r j) = ∑ h : Fin 5, x (ix2 r (col j h)) * w (ix2 0 (col j h)) + b (ix2 0 j) := by
  unfold stored
  canon_tiles y hy using halves_cover _ _ _
  all_goals
    obtain ⟨c, hc⟩ : ∃ c : Fin 512, c = y 1 := ⟨_, rfl⟩
    have hy : y = ix2 r c := by rw [hc, eq_ix2 y, show y 0 = r from Fin.ext hy0.symm]; rfl
    have hj : j.val = _ := hy1
    rw [← hc] at hj
    subst hy
    refine (half_apply _ _ _ r c).trans ?_
    refine congrArg₂ (· + ·) (Finset.sum_congr rfl fun h _ => congrArg₂ (· * ·) ?_ ?_) ?_
    all_goals
      refine View.ld_unit_apply_of _ _ _ _ _ _ fun a => ?_
      fin_cases a
      all_goals simp
      try omega

end Cert.KernelIdeal.SplitLinear

end
-- ==== Proof.Entry.lean ====
/-
  What the pipeline finds in its arrays: the weights flattened into one row and padded with zeros to
  153600 entries, and the bias as one row. Read at an index inside the unpadded part, these are the
  weight and bias arguments.
-/
module

public import proofs.«01_k».proof.Proof.Gen.KernelIdeal.Frame
public import Idealize.ShloMosaic.Lib.Pointwise
public import Idealize.ShloMosaic.Lib.Claim
public import Idealize.ShloMosaic.Lib.KernelVsHost

@[expose] public section

set_option maxRecDepth 16384

noncomputable section

namespace Cert.KernelIdeal.SplitLinear

open Idealize.ShloMosaic Idealize.ShloMosaic.TcCoe Idealize.ShloMosaic.Tactic
open Cert.KernelIdeal.Gen

variable (m : (ℓ : Loc nD τ sig) → Buf (Elt Ideal) ℓ) (c : Dev nD)

/-- The padded weight row: the weights flattened to one row, then zeros. -/
theorem weight_row :
    V m c main_v1 = pad S1x153600 ![0, 0] ![0, 1150] ![0, 0]
      (shapeCast S1x152450 (m ((c.tc : Thread nD τ).loc main_arg1)) shapeCasts_S30490x5_S1x152450 : FVec Ideal S1x152450 .f32)
      (sitofp .f32 (constantI S_ 32 0#32)) pads_S1x152450_S1x153600_000_011500 h_S_ := by
  conv_lhs => simp only [V, hostOps0, hostOps0_1, hostOps0_2, List.flatten_cons, List.flatten_nil, List.cons_append, List.nil_append, List.append_nil]
  entry_read
  rfl

/-- The flattened weights at column `k`: weight `k mod 5` of group `k / 5`. -/
theorem flat_apply (v : FVec Ideal S30490x5 .f32) (k : Fin 152450) :
    shapeCast S1x152450 v shapeCasts_S30490x5_S1x152450 (ix2 0 k)
      = v (ix2 (⟨k.val / 5, by omega⟩ : Fin 30490) (⟨k.val % 5, by omega⟩ : Fin 5)) := by
  pointwise

/-- The padded weight row at column `5g + h` is weight `h` of group `g`. -/
theorem weight_entry (g : Fin 30490) (h : Fin 5) (k : Fin 153600) (hk : k.val = 5 * g.val + h.val) :
    V m c main_v1 (ix2 0 k) = m ((c.tc : Thread nD τ).loc main_arg1) (ix2 g h) := by
  have hlt : k.val < 152450 := by omega
  rw [weight_row, pad_apply_of_inside _ _ _ _ _ _ _ _ (ix2 (0 : Fin 1) (⟨k.val, hlt⟩ : Fin 152450))
    (fun a => by fin_cases a <;> simp)]
  refine (flat_apply _ _).trans (congrArg (m ((c.tc : Thread nD τ).loc main_arg1)) (congrArg₂ ix2 (Fin.ext ?_) (Fin.ext ?_)))
  · show k.val / 5 = g.val
    omega
  · show k.val % 5 = h.val
    omega

/-- The bias row at column `g` is the bias of group `g`. -/
theorem bias_entry (g : Fin 30490) :
    V m c main_v2 (ix2 0 g) = m ((c.tc : Thread nD τ).loc main_arg2) (ix1 g) := by
  simp only [V, hostOps0, hostOps0_1, hostOps0_2, List.flatten_cons, List.flatten_nil, List.cons_append, List.nil_append, List.append_nil]
  entry_read
  pointwise

end Cert.KernelIdeal.SplitLinear

end
-- ==== Proof.Target.lean ====
/-
  The result of the launch as one formula, and the block of it that one grid point writes. The last
  block of `x`, of the bias and of the result reaches past the end of its array; what a staging buffer
  holds there is unknown. The contraction reads it, but only against entries 0 of the selection matrix,
  and over the extended reals a product with 0 is 0, so no column inside the result depends on it.
-/
module

public import proofs.«01_k».proof.Proof.Block
public import proofs.«01_k».proof.Proof.Entry

@[expose] public section

set_option maxRecDepth 16384

noncomputable section

namespace Cert.KernelIdeal.SplitLinear

open Idealize.ShloMosaic Idealize.ShloMosaic.TcCoe Idealize.ShloMosaic.Tactic
open Cert.KernelIdeal.Gen
open scoped BigOperators

/-- Column `5g + h` of `x`: the `h`-th of the five columns of group `g`. -/
abbrev xcol (g : Fin 30490) (h : Fin 5) : Fin 152450 := ⟨5 * g.val + h.val, by omega⟩

/-- The grouped linear map: row `r`, group `g` is the sum over `h` of `x(r, 5g + h) · weight(g, h)`, plus
`bias(g)`. -/
def grouped (x : FVec Ideal S512x152450 .f32) (w : FVec Ideal S30490x5 .f32) (b : FVec Ideal S30490 .f32) :
    FVec Ideal S512x30490 .f32 := fun i =>
  ∑ h : Fin 5, x (ix2 (i 0) (xcol (i 1) h)) * w (ix2 (i 1) h) + b (ix1 (i 1))

variable (m : (ℓ : Loc nD τ sig) → Buf (Elt Ideal) ℓ) (c : Dev nD)

/-- The grouped linear map of the launch's arguments. -/
abbrev result : FVec Ideal S512x30490 .f32 :=
  grouped (m ((c.tc : Thread nD τ).loc main_arg0)) (m ((c.tc : Thread nD τ).loc main_arg1)) (m ((c.tc : Thread nD τ).loc main_arg2))

/-- A filled block, read inside the part the transfer moves, is what was moved. -/
theorem fill_inside {G : Pipeline.Grid} (w : Pipeline.Window sig G) {α : Type} (i : G.Coords) (d : w.block.Idx → α)
    (g : (w.xblock i).Idx → α) (j : w.block.Idx) (h : ∀ a, (j a).val < w.xsize i a) :
    w.fill i d g j = g fun a => ⟨(j a).val, h a⟩ := by
  unfold Pipeline.Window.fill
  rw [dif_pos ((w.moved_iff i j).mpr h)]

/-- The block index of `x` at point `t`: row block 0, column block `t`. -/
theorem index_x : ∀ t : Fin grid0.N, win0_0.index t = ![0, t.val] := by decide +kernel
/-- The weight row's block index at point `t`: column block `t`. -/
theorem index_w : ∀ t : Fin grid0.N, win0_1.index t = ![0, t.val] := by decide +kernel
/-- The bias row's block index at point `t`: column block `t`. -/
theorem index_b : ∀ t : Fin grid0.N, win0_2.index t = ![0, t.val] := by decide +kernel
/-- The result's block index at point `t`: row block 0, column block `t`. -/
theorem index_o : ∀ t : Fin grid0.N, win0_3.index t = ![0, t.val] := by decide +kernel

/-- How much of the block of `x` at point `t` lies inside the array. -/
theorem size_x : ∀ t : Fin grid0.N, win0_0.xsize (grid0.coords t) = ![512, min 5120 (152450 - t.val * 5120)] := by decide +kernel
/-- How much of the bias block at point `t` lies inside the array. -/
theorem size_b : ∀ t : Fin grid0.N, win0_2.xsize (grid0.coords t) = ![1, min 1024 (30490 - t.val * 1024)] := by decide +kernel
/-- How much of the result's block at point `t` lies inside the array. -/
theorem size_o : ∀ t : Fin grid0.N, win0_3.xsize (grid0.coords t) = ![512, min 1024 (30490 - t.val * 1024)] := by decide +kernel

/-- A staged block of `x` at row `r`, column `k`, where column `t · 5120 + k` lies inside the array. -/
theorem x_block (t : Fin cfg0.N) (d : Vec Ideal S512x5120 .f32) (r : Fin 512) (k : Fin 5120) (n : Fin 152450)
    (hn : n.val = t.val * 5120 + k.val) :
    win0_0.fill (grid0.coords t) d (iblk m c 0 t) (ix2 r k) = m ((c.tc : Thread nD τ).loc main_arg0) (ix2 r n) := by
  have hin : ∀ a, ((ix2 r k : S512x5120.Idx) a).val < win0_0.xsize (grid0.coords t) a := fun a => by
    rw [size_x t]; fin_cases a <;> simp <;> omega
  refine (fill_inside win0_0 _ _ _ _ hin).trans ?_
  blk_simp [iblk, index_x t]
  rw [V_main_arg0]
  refine congrArg (m ((c.tc : Thread nD τ).loc main_arg0)) ?_
  blk_ext [index_x t]

/-- A staged block of the weight row at column `k`, where `t · 5120 + k = 5g + h`. -/
theorem w_block (t : Fin cfg0.N) (k : Fin 5120) (g : Fin 30490) (h : Fin 5) (hk : t.val * 5120 + k.val = 5 * g.val + h.val) :
    iblk m c 1 t (ix2 0 k) = m ((c.tc : Thread nD τ).loc main_arg1) (ix2 g h) := by
  have ht : t.val < 30 := t.isLt
  rw [← weight_entry m c g h ⟨t.val * 5120 + k.val, by omega⟩ hk]
  blk_simp [iblk, index_w t]
  refine congrArg (V m c main_v1) ?_
  blk_ext [index_w t]

/-- A staged block of the bias row at column `j`, where column `t · 1024 + j` lies inside the array. -/
theorem b_block (t : Fin cfg0.N) (d : Vec Ideal S1x1024 .f32) (j : Fin 1024) (g : Fin 30490) (hg : g.val = t.val * 1024 + j.val) :
    win0_2.fill (grid0.coords t) d (iblk m c 2 t) (ix2 0 j) = m ((c.tc : Thread nD τ).loc main_arg2) (ix1 g) := by
  have hin : ∀ a, ((ix2 0 j : S1x1024.Idx) a).val < win0_2.xsize (grid0.coords t) a := fun a => by
    rw [size_b t]; fin_cases a <;> simp <;> omega
  refine (fill_inside win0_2 _ _ _ _ hin).trans ?_
  rw [← bias_entry m c g]
  blk_simp [iblk, index_b t]
  refine congrArg (V m c main_v2) ?_
  blk_ext [index_b t]

/-- What point `t` leaves in its output block, on the part inside the array, is that block of the result,
whatever the staging buffers hold past the ends of the arrays. -/
theorem block_value (t : Fin cfg0.N) (dx : Vec Ideal S512x5120 .f32) (db : Vec Ideal S1x1024 .f32)
    (y : (win0_3.xblock (grid0.coords t)).Idx) :
    stored (win0_0.fill (grid0.coords t) dx (iblk m c 0 t)) (iblk m c 1 t) (win0_2.fill (grid0.coords t) db (iblk m c 2 t))
        (win0_3.xinj (grid0.coords t) y)
      = result m c ((win0_3.blk t).view.emb y) := by
  have h0 : (y 0).val < 512 := (y 0).isLt.trans_eq (congrFun (size_o t) 0)
  have h1 : (y 1).val < min 1024 (30490 - t.val * 1024) := (y 1).isLt.trans_eq (congrFun (size_o t) 1)
  have hj : (y 1).val < 1024 := by omega
  obtain ⟨r, hr⟩ : ∃ r : Fin 512, r.val = (y 0).val := ⟨⟨_, h0⟩, rfl⟩
  obtain ⟨j, hj⟩ : ∃ j : Fin 1024, j.val = (y 1).val := ⟨⟨_, hj⟩, rfl⟩
  obtain ⟨g, hg⟩ : ∃ g : Fin 30490, g.val = t.val * 1024 + j.val := ⟨⟨t.val * 1024 + j.val, by omega⟩, rfl⟩
  have hin : win0_3.xinj (grid0.coords t) y = (ix2 r j : S512x1024.Idx) :=
    funext fun a => Fin.ext (by fin_cases a; exacts [hr.symm, hj.symm])
  have hout : ((win0_3.blk t).view.emb y : S512x30490.Idx) = ix2 r g := by
    blk_ext [index_o t]
  rw [hin, hout, stored_apply]
  unfold result grouped
  refine congrArg₂ (· + ·) (Finset.sum_congr rfl fun h _ => congrArg₂ (· * ·) ?_ ?_) ?_
  · exact x_block m c t dx r (col j h) (xcol g h) (by simp; omega)
  · exact w_block m c t (col j h) g h (by simp; omega)
  · exact b_block m c t db j g hg

end Cert.KernelIdeal.SplitLinear

end
-- ==== Proof.Run.lean ====
/-
  The launch over the extended reals: every grid point leaves its block of the result in the output's
  staging buffer, so the result array ends at the grouped linear map of the arguments, and the
  arguments end as they began.
-/
module

public import proofs.«01_k».proof.Proof.Target
public import Idealize.ShloMosaic.Lib.Pipeline.Covers

@[expose] public section

set_option maxRecDepth 16384

noncomputable section

namespace Cert.KernelIdeal.SplitLinear

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)
open Cert.KernelIdeal.Gen

local notation "𝕄" => MT nD τ sig Unit (Elt Ideal) ℕ (UR sig nD τ) ℕ

variable (m : (ℓ : Loc nD τ sig) → Buf (Elt Ideal) ℓ) (ρ : Dev nD → PrngReg)

/-- The block of the result that point `t` writes, its part inside the array. -/
def resultBlock (c : Dev nD) (t : Fin cfg0.N) : (win0_3.xblock (grid0.coords t)).Idx → EReal :=
  fun y => result m c ((win0_3.blk t).view.emb y)

/-- What the staging buffers hold after the body at point `t`: the inputs their blocks, the output its
block of the result; past the ends of the arrays, where nothing is claimed, 0 stands in. -/
def dats (_ : Fin 1) (c : Dev nD) : Dat τ (Elt Ideal) Unit ℕ (UR sig nD τ) ℕ cfg0 c where
  A w := V m c (Pipeline.arrRef spec0 w)
  after w t := match w with
    | ⟨0, _⟩ => win0_0.fill (grid0.coords t) (fun _ => (0 : EReal)) (iblk m c 0 t)
    | ⟨1, _⟩ => iblk m c 1 t
    | ⟨2, _⟩ => win0_2.fill (grid0.coords t) (fun _ => (0 : EReal)) (iblk m c 2 t)
    | ⟨3, _⟩ => win0_3.fill (grid0.coords t) (fun _ => (0 : EReal)) (resultBlock m c t)
  Φ _ := Pipeline.ΦA spec0 c
  q _ := fullShare
  owed _ := 0

/-- The arrays are found as the region's entry leaves them. -/
theorem dats_A (c : Dev nD) (w : Fin cfg0.W) : (dats m 0 c).A w = V m c (Pipeline.arrRef spec0 w) := by
  dsimp only [dats]

/-- After the body the buffer of `x` holds its block, and 0 past the array's end. -/
theorem after_x (c : Dev nD) (t : Fin cfg0.N) :
    (dats m 0 c).after 0 t = win0_0.fill (grid0.coords t) (fun _ => (0 : EReal)) (iblk m c 0 t) := by dsimp only [dats]
/-- After the body the weights' buffer holds its block. -/
theorem after_w (c : Dev nD) (t : Fin cfg0.N) : (dats m 0 c).after 1 t = iblk m c 1 t := by dsimp only [dats]
/-- After the body the bias's buffer holds its block, and 0 past the array's end. -/
theorem after_b (c : Dev nD) (t : Fin cfg0.N) :
    (dats m 0 c).after 2 t = win0_2.fill (grid0.coords t) (fun _ => (0 : EReal)) (iblk m c 2 t) := by dsimp only [dats]
/-- After the body the output's buffer holds its block of the result, and 0 past the array's end. -/
theorem after_o (c : Dev nD) (t : Fin cfg0.N) :
    (dats m 0 c).after 3 t = win0_3.fill (grid0.coords t) (fun _ => (0 : EReal)) (resultBlock m c t) := by dsimp only [dats]

/-- Before the body the buffer of `x` holds its block, and past the array's end whatever `d` says. -/
theorem before_x (c : Dev nD) (t : Fin cfg0.N) (d) :
    (dats m 0 c).before 0 t d = win0_0.fill (grid0.coords t) d (iblk m c 0 t) := by
  unfold Dat.before; rw [if_pos (fetch0_0 t)]; rfl
/-- Before the body the weights' buffer holds its block. -/
theorem before_w (c : Dev nD) (t : Fin cfg0.N) (d) : (dats m 0 c).before 1 t d = iblk m c 1 t :=
  before0_1_of m (dats m 0 c) (dats_A m c 1) (after_w m c) t d
/-- Before the body the bias's buffer holds its block, and past the array's end whatever `d` says. -/
theorem before_b (c : Dev nD) (t : Fin cfg0.N) (d) :
    (dats m 0 c).before 2 t d = win0_2.fill (grid0.coords t) d (iblk m c 2 t) := by
  unfold Dat.before; rw [if_pos (fetch0_2 t)]; rfl

/-- The body's row of the program table, at point `t`'s buffers. -/
theorem defs₀_row (t : Fin cfg0.N) : defs₀ (F := Ideal) .tc cfg0.body (cfg0.bodyArgs t (cfg0.slots t)) = bodyAt0 t := by
  unfold defs₀; rw [Defs.onTc_tc]

set_option maxHeartbeats 1000000 in
/-- The body at every point does what `dats` says of it. -/
theorem body_meets (c : Dev nD) : BodyObligationLoose (dats m 0 c) (defs₀ (F := Ideal)) Variants.none () Set.univ := fun t => by
  rw [bigSep_W0, bigSep_W0, defs₀_row]
  simp only
  rw [show (dats m 0 c).Φ t.succ = (dats m 0 c).Φ t.castSucc from rfl,
    show (dats m 0 c).owesAt () t.succ = (dats m 0 c).owesAt () t.castSucc from rfl]
  iintro ⟨HΦ, Howe, ⟨%dx, Hx⟩, ⟨%dw, Hw⟩, ⟨%db, Hb⟩, ⟨%d, Ho⟩⟩
  rw [before_x m c t dx, before_w m c t dw, before_b m c t db]
  iapply (body_triple (F := Ideal) c Set.univ (grid0.coords t) _ _ _ _ _ _ _ _
    (win0_0.fill (grid0.coords t) dx (iblk m c 0 t)) (iblk m c 1 t) (win0_2.fill (grid0.coords t) db (iblk m c 2 t)) _ _)
  isplitl [Hx]; · iexact Hx
  isplitl [Hw]; · iexact Hw
  isplitl [Hb]; · iexact Hb
  isplitl [Ho]; · iexact Ho
  iintro ⟨Hx, Hw, Hb, Ho⟩
  isplitl [HΦ]; · iexact HΦ
  isplitl [Howe]; · iexact Howe
  have hx : win0_0.cut (grid0.coords t) ((dats m 0 c).after 0 t) = iblk m c 0 t := by
    rw [after_x]; exact win0_0.cut_fill _ _ _
  have hb : win0_2.cut (grid0.coords t) ((dats m 0 c).after 2 t) = iblk m c 2 t := by
    rw [after_b]; exact win0_2.cut_fill _ _ _
  have ho : win0_3.cut (grid0.coords t) ((dats m 0 c).after 3 t)
      = win0_3.cut (grid0.coords t) (stored (win0_0.fill (grid0.coords t) dx (iblk m c 0 t)) (iblk m c 1 t)
          (win0_2.fill (grid0.coords t) db (iblk m c 2 t))) := by
    rw [after_o]
    exact (win0_3.cut_fill _ _ _).trans (funext fun y => (block_value m c t dx db y).symm)
  isplitl [Hx]
  · iexists dx
    change _ ⊢ owns (c : Thread nD τ) (st0_0 t) fullShare (win0_0.fill (grid0.coords t) dx (win0_0.cut (grid0.coords t) ((dats m 0 c).after 0 t)))
    rw [hx]
  isplitl [Hw]
  · rw [after_w]; iexact Hw
  isplitl [Hb]
  · iexists db
    change _ ⊢ owns (c : Thread nD τ) (st0_2 t) fullShare (win0_2.fill (grid0.coords t) db (win0_2.cut (grid0.coords t) ((dats m 0 c).after 2 t)))
    rw [hb]
  iexists (stored (win0_0.fill (grid0.coords t) dx (iblk m c 0 t)) (iblk m c 1 t) (win0_2.fill (grid0.coords t) db (iblk m c 2 t)))
  change _ ⊢ owns (c : Thread nD τ) (st0_3 t) fullShare (win0_3.fill (grid0.coords t) _ (win0_3.cut (grid0.coords t) ((dats m 0 c).after 3 t)))
  rw [ho, win0_3.fill_cut]

-- the run theorem's implicit arguments are found by unfolding plain definitions in the types
set_option backward.isDefEq.respectTransparency.types false in
set_option maxHeartbeats 800000 in
/-- Every run of the program ends with the arrays at what `dats` computes, everything else as it was at
the region's entry, and every semaphore at 0. -/
theorem run_all : θ_run defs (onTc (τ := τ) (main (F := Ideal))) (s₀ m ρ)
    (fun r => Pipeline.FramePost cfgs (dats m) 0 (V m) r ∧ r.2.sem = fun _ => 0) :=
  Pipeline.θ_run_frame (Q' := _) cfgs (dats m) (0 : Fin 1) launch0 defs₀ Variants.none m ρ main
    (hbody := body_meets m) (hshare := fun c => (dats m 0 c).share_full fun _ => rfl)
    (howed := fun _ _ => rfl) (V := V m) (hmain := hmain m Variants.none) (hA := dats_A m) (hΦ := fun _ _ => rfl)

/-- The frame: the arguments end as they began and every semaphore is 0. -/
theorem frame_run : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) :=
  θ_run_and (frame_of m ρ (dats m) (dats_A m) ((θ_run defs _ _).mono (fun _ h => h.1) (run_all m ρ)))
    ((θ_run defs _ _).mono (fun _ h => h.2) (run_all m ρ))

/-- The output's blocks cover the result array. -/
theorem out_covers : (cfg0.win 3).Covers := by decide +kernel

/-- The result array after the run is the grouped linear map of the arguments. -/
theorem final_result (c : Dev nD) : (dats m 0 c).arrAt 3 cfg0.N = result m c := by
  refine (dats m 0 c).arrAt_eq_of_covers 3 _ out_covers fun t _ y => ?_
  rw [after_o]
  exact (cast_eq _ _).trans (congrFun (win0_3.cut_fill (grid0.coords t) (fun _ => (0 : EReal)) (resultBlock m c t)) y)

/-- The value: the result ends at the grouped linear map of the arguments, which end as they began. -/
theorem value_run : θ_run defs (onTc (τ := τ) (main (F := Ideal))) ⟨m, fun _ => 0, ρ⟩ (fun r => ∀ c : Dev nD,
      r.2.mem ((c.tc : Thread nD τ).loc main_v3) = result m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c => ⟨((h.2.1 c).1 3).trans (final_result m c), h.1.1 c⟩)
    (θ_run_and (frame_run m ρ) (run_all m ρ))

end Cert.KernelIdeal.SplitLinear

end
-- ==== Proof.Reference.lean ====
/-
  What the reference computes: at row r, group g, the sum over h of weight(g, h) · x(r, 5g + h), plus
  the bias of g. That is the kernel's grouped linear map with the factors of each product exchanged.
-/
module

public import proofs.«01_k».proof.Proof.Target
public import proofs.«01_k».proof.Proof.Gen.ReferenceIdeal.Run

@[expose] public section

set_option maxRecDepth 16384

noncomputable section

namespace Cert.ReferenceIdeal.SplitLinear

open Idealize.ShloMosaic Idealize.ShloMosaic.Tactic
open Cert.ReferenceIdeal Cert.ReferenceIdeal.Gen
open scoped BigOperators

/-- The reference's operations composed: the rows of `x` cut into groups of five, contracted with the
weights group by group, transposed, and the bias added. -/
abbrev composed (x : FVec Ideal S512x152450 .f32) (w : FVec Ideal S30490x5 .f32) (b : FVec Ideal S30490 .f32) :
    FVec Ideal S512x30490 .f32 :=
  addf (transpose S512x30490 [1, 0] (Host.dotGeneral dot_S30490x5_S512x30490x5_S30490x512_1_2_n_0_0_1 none w
      (shapeCast S512x30490x5 x shapeCasts_S512x152450_S512x30490x5)) transposes_S30490x512_S512x30490_1_0)
    (broadcastInDim S512x30490 ![0, 1] bcast_S1x30490_S512x30490_0_1 (broadcastInDim S1x30490 ![1] bcast_S30490_S1x30490_1 b))

/-- The reference at row `r`, group `g`. -/
theorem composed_apply (x : FVec Ideal S512x152450 .f32) (w : FVec Ideal S30490x5 .f32) (b : FVec Ideal S30490 .f32)
    (r : Fin 512) (g : Fin 30490) :
    composed x w b (ix2 r g) = ∑ h : Fin 5, w (ix2 g h) * x (ix2 r (Cert.KernelIdeal.SplitLinear.xcol g h)) + b (ix1 g) := by
  pointwise [composed]
  refine congrArg (· + b (ix1 g)) (Finset.sum_congr rfl fun h _ => congrArg (fun k => w (ix2 g h) * x (ix2 r k)) (Fin.ext ?_))
  show g.val * 5 + h.val = 5 * g.val + h.val
  omega

/-- The reference computes the kernel's grouped linear map. -/
theorem composed_eq (x : FVec Ideal S512x152450 .f32) (w : FVec Ideal S30490x5 .f32) (b : FVec Ideal S30490 .f32) :
    composed x w b = Cert.KernelIdeal.SplitLinear.grouped x w b := by
  funext i
  obtain ⟨r, g, rfl⟩ : ∃ r g, i = ix2 r g := ⟨i 0, i 1, eq_ix2 i⟩
  rw [composed_apply]
  exact congrArg (· + b (ix1 g)) (Finset.sum_congr rfl fun h _ => mul_comm _ _)

end Cert.ReferenceIdeal.SplitLinear

end
-- ==== Proof.lean ====
/-
  The certificate's claim, assembled: the frames of the kernel, of its idealization and of the
  reference, the idealization's rewrites (there are none), and the equation between the kernel's
  result and the reference's over the extended reals.
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.WordFrame
public import proofs.«01_k».proof.Proof.Run
public import proofs.«01_k».proof.Proof.Reference
public import Idealize.ShloMosaic.Lib.Claim
public import Idealize.ShloMosaic.Lib.Quiescent
public import Idealize.ShloMosaic.Adequacy
public import Idealize.ShloMosaic.Init

@[expose] public section

noncomputable section

namespace Cert.Proof

open Idealize.ShloMosaic Idealize.SL.Sem Cert.Kernel

/-- Every claim: the three programs end with their arguments as they began and every semaphore at 0, and the
kernel's result over the extended reals is the reference's. -/
theorem claim : Cert.Claim := ⟨Cert.Kernel.Gen.facts, Cert.KernelIdeal.Gen.facts, Cert.ReferenceIdeal.Gen.facts, by
  refine ⟨fun m g _ => Cert.Kernel.SplitLinear.frame_run m g, fun m g _ => Cert.KernelIdeal.SplitLinear.frame_run m g, ?_, ?_, ?_⟩
  · intro m g hpre
    refine (θ_run Cert.ReferenceIdeal.defs _ _).mono (fun r h => ?_) (Cert.ReferenceIdeal.Value.run m g)
    exact ⟨fun c => (h c).2, sem_eq_zero_of_no_sems (by decide) r.2⟩
  · trivial
  · pair_intro
    · run_from Cert.KernelIdeal.SplitLinear.value_run m g
    · run_from Cert.ReferenceIdeal.Value.run m' g'
      exact Cert.ReferenceIdeal.SplitLinear.composed_eq _ _ _⟩

end Cert.Proof

end
